-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dense_offsets [hPre_dense_offsets : Cert.Pre_dense_offsets.Facts] (m : (ℓ : Loc Cert.KernelIdeal.nD Cert.KernelIdeal.τ Cert.KernelIdeal.sig) → Buf (Elt Ideal) ℓ) : Prop :=
  ∀ c : Dev Cert.KernelIdeal.nD,
    (Cert.Pre_dense_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dense_offsets [hPre_dense_offsets : Cert.Pre_dense_offsets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dense_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_dense_offsets [hKernelIdeal : Cert.KernelIdeal.Facts] [hPre_dense_offsets : Cert.Pre_dense_offsets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dense_offsets m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_dense_offsets [hReferenceIdeal : Cert.ReferenceIdeal.Facts] [hPre_dense_offsets : Cert.Pre_dense_offsets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dense_offsets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_dense_offsets [hKernelIdeal : Cert.KernelIdeal.Facts] [hReferenceIdeal : Cert.ReferenceIdeal.Facts] [hPre_dense_offsets : Cert.Pre_dense_offsets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dense_offsets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_dense_offsets : Cert.Pre_dense_offsets.Facts),
    quiescent_Kernel (hKernel := hKernel)
    ∧ quiescent_KernelIdeal (hKernelIdeal := hKernelIdeal)
    ∧ quiescent_KernelIdeal_pre_dense_offsets (hKernelIdeal := hKernelIdeal) (hPre_dense_offsets := hPre_dense_offsets)
    ∧ quiescent_ReferenceIdeal (hReferenceIdeal := hReferenceIdeal)
    ∧ quiescent_ReferenceIdeal_pre_dense_offsets (hReferenceIdeal := hReferenceIdeal) (hPre_dense_offsets := hPre_dense_offsets)
    ∧ preserves_Kernel_KernelIdeal
    ∧ algebraic_KernelIdeal_ReferenceIdeal_pre_dense_offsets (hKernelIdeal := hKernelIdeal) (hReferenceIdeal := hReferenceIdeal) (hPre_dense_offsets := hPre_dense_offsets)
-- ==== Pre_dense_offsets.lean ====
abbrev S32768x512 : Shape := ⟨2, ![32768, 512]⟩
abbrev S17 : Shape := ⟨1, ![17]⟩
abbrev S64x512 : Shape := ⟨2, ![64, 512]⟩
abbrev S512x512 : Shape := ⟨2, ![512, 512]⟩
abbrev S512 : Shape := ⟨1, ![512]⟩
abbrev S_ : Shape := ⟨0, ![]⟩

class Facts : Prop where
  bcast_S_S17 : S_.BroadcastsInDim S17 (![] : Fin 0 → Fin S17.rank)
  reducesTo_S17_S_d0 : S17.ReducesTo [0] S_
  h_S_ : 0 < S_.numel

variable [Facts]

def fn {F : FTy → Type} [FloatOps F] (main_arg0 : FVec F S32768x512 .f32) (main_arg1 : IVec S17 32) (main_arg2 : FVec F S32768x512 .f32) (main_arg3 : FVec F S64x512 .f32) (main_arg4 : IVec S17 32) (main_arg5 : FVec F S512x512 .f32) (main_arg6 : FVec F S512 .f32) (main_arg7 : FVec F S512x512 .f32) (main_arg8 : FVec F S512 .f32) : IVec S_ 1 :=
  let main_v0 : IVec S17 32 := iotaInDim S17 32 0
  let main_c : IVec S_ 32 := constantI S_ 32 2048#32
  let main_v1 : IVec S17 32 := broadcastInDim S17 ![] bcast_S_S17 main_c
  let main_v2 : IVec S17 32 := muli main_v0 main_v1
  let main_v3 : IVec S17 1 := cmpi .eq main_arg1 main_v2
  let main_c_0 : IVec S_ 1 := constantI S_ 1 1#1
  let main_v4 : IVec S_ 1 := (fun x v => Host.reduce IntOp.andi x v reducesTo_S17_S_d0 h_S_) main_v3 main_c_0
  let main_v5 : IVec S17 32 := iotaInDim S17 32 0
  let main_c_1 : IVec S_ 32 := constantI S_ 32 4#32
  let main_v6 : IVec S17 32 := broadcastInDim S17 ![] bcast_S_S17 main_c_1
  let main_v7 : IVec S17 32 := muli main_v5 main_v6
  let main_v8 : IVec S17 1 := cmpi .eq main_arg4 main_v7
  let main_c_2 : IVec S_ 1 := constantI S_ 1 1#1
  let main_v9 : IVec S_ 1 := (fun x v => Host.reduce IntOp.andi x v reducesTo_S17_S_d0 h_S_) main_v8 main_c_2
  let main_v10 : IVec S_ 1 := andi main_v4 main_v9
  main_v10
-- ==== Kernel.lean ====
abbrev S32768x512 : Shape := ⟨2, ![32768, 512]⟩
abbrev S17 : Shape := ⟨1, ![17]⟩
abbrev S64x512 : Shape := ⟨2, ![64, 512]⟩
abbrev S512x512 : Shape := ⟨2, ![512, 512]⟩
abbrev S512 : Shape := ⟨1, ![512]⟩
abbrev S16x2048x512 : Shape := ⟨3, ![16, 2048, 512]⟩
abbrev S16x4x512 : Shape := ⟨3, ![16, 4, 512]⟩
abbrev S1x512 : Shape := ⟨2, ![1, 512]⟩
abbrev S16x2050x1024 : Shape := ⟨3, ![16, 2050, 1024]⟩
abbrev S1x2048x512 : Shape := ⟨3, ![1, 2048, 512]⟩
abbrev S1x4x512 : Shape := ⟨3, ![1, 4, 512]⟩
abbrev S1x2050x1024 : Shape := ⟨3, ![1, 2050, 1024]⟩
abbrev S2048x512 : Shape := ⟨2, ![2048, 512]⟩
abbrev S2048x1024 : Shape := ⟨2, ![2048, 1024]⟩
abbrev S4x512 : Shape := ⟨2, ![4, 512]⟩
abbrev S1x1024 : Shape := ⟨2, ![1, 1024]⟩
abbrev S2x1024 : Shape := ⟨2, ![2, 1024]⟩
abbrev S1x2x1024 : Shape := ⟨3, ![1, 2, 1024]⟩
abbrev S1x2048x1024 : Shape := ⟨3, ![1, 2048, 1024]⟩
abbrev S65600x512 : Shape := ⟨2, ![65600, 512]⟩

abbrev nBuf : Space → Nat
  | .hbm => 16
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S17, .i32⟩
  | .hbm, ⟨2, _⟩ => ⟨S32768x512, .f32⟩
  | .hbm, ⟨3, _⟩ => ⟨S64x512, .f32⟩
  | .hbm, ⟨4, _⟩ => ⟨S17, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S16x2048x512, .f32⟩
  | .hbm, ⟨10, _⟩ => ⟨S16x2048x512, .f32⟩
  | .hbm, ⟨11, _⟩ => ⟨S16x4x512, .f32⟩
  | .hbm, ⟨12, _⟩ => ⟨S1x512, .f32⟩
  | .hbm, ⟨13, _⟩ => ⟨S1x512, .f32⟩
  | .hbm, ⟨14, _⟩ => ⟨S16x2050x1024, .f32⟩
  | .hbm, ⟨15, _⟩ => ⟨S65600x512, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x4x512, .f32⟩
  | .local _ .vmem, ⟨5, _⟩ => ⟨S1x4x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S1x2050x1024, .f32⟩
  | .local _ .vmem, ⟨11, _⟩ => ⟨S1x2050x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2050x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32768x512 : Shape := ⟨2, ![32768, 512]⟩
abbrev S17 : Shape := ⟨1, ![17]⟩
abbrev S64x512 : Shape := ⟨2, ![64, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S32768x1024 : Shape := ⟨2, ![32768, 1024]⟩
abbrev S65536x512 : Shape := ⟨2, ![65536, 512]⟩
abbrev S16 : Shape := ⟨1, ![16]⟩
abbrev S64 : Shape := ⟨1, ![64]⟩
abbrev S1x16 : Shape := ⟨2, ![1, 16]⟩
abbrev S64x1 : Shape := ⟨2, ![64, 1]⟩
abbrev S64x16 : Shape := ⟨2, ![64, 16]⟩
abbrev S65536 : Shape := ⟨1, ![65536]⟩
abbrev S65536x1 : Shape := ⟨2, ![65536, 1]⟩
abbrev S65536x16 : Shape := ⟨2, ![65536, 16]⟩
abbrev S65600x512 : Shape := ⟨2, ![65600, 512]⟩

abbrev nBuf : Space → Nat
  | .hbm => 134
  | .vmem => 0
  | .smem => 0
  | _ => 0

abbrev hbmTy0_0 (i : Nat) : BufTy := match i % 128 with
  | 0 => ⟨S32768x512, .f32⟩
  | 1 => ⟨S17, .i32⟩
  | 2 => ⟨S32768x512, .f32⟩
  | 3 => ⟨S64x512, .f32⟩
  | 4 => ⟨S17, .i32⟩
  | 5 => ⟨S512x512, .f32⟩
  | 6 => ⟨S512, .f32⟩
  | 7 => ⟨S512x512, .f32⟩
  | 8 => ⟨S512, .f32⟩
  | 9 => ⟨S32768x512, .f32⟩
  | 10 => ⟨S1x512, .f32⟩
  | 11 => ⟨S32768x512, .f32⟩
  | 12 => ⟨S32768x512, .f32⟩
  | 13 => ⟨S32768x512, .f32⟩
  | 14 => ⟨S32768x512, .f32⟩
  | 15 => ⟨S_, .f32⟩
  | 16 => ⟨S32768x512, .f32⟩
  | 17 => ⟨S32768x512, .f32⟩
  | 18 => ⟨S_, .f32⟩
  | 19 => ⟨S32768x512, .f32⟩
  | 20 => ⟨S32768x512, .f32⟩
  | 21 => ⟨S32768x512, .f32⟩
  | 22 => ⟨S64x512, .f32⟩
  | 23 => ⟨S1x512, .f32⟩
  | 24 => ⟨S64x512, .f32⟩
  | 25 => ⟨S64x512, .f32⟩
  | 26 => ⟨S64x512, .f32⟩
  | 27 => ⟨S64x512, .f32⟩
  | 28 => ⟨S_, .f32⟩
  | 29 => ⟨S64x512, .f32⟩
  | 30 => ⟨S64x512, .f32⟩
  | 31 => ⟨S_, .f32⟩
  | 32 => ⟨S64x512, .f32⟩
  | 33 => ⟨S64x512, .f32⟩
  | 34 => ⟨S64x512, .f32⟩
  | 35 => ⟨S32768x1024, .f32⟩
  | 36 => ⟨S65536x512, .f32⟩
  | 37 => ⟨S_, .i32⟩
  | 38 => ⟨S17, .i32⟩
  | 39 => ⟨S17, .i32⟩
  | 40 => ⟨S16, .i32⟩
  | 41 => ⟨S16, .i32⟩
  | 42 => ⟨S16, .i32⟩
  | 43 => ⟨S17, .i32⟩
  | 44 => ⟨S64, .i32⟩
  | 45 => ⟨S16, .i32⟩
  | 46 => ⟨S1x16, .i32⟩
  | 47 => ⟨S64x1, .i32⟩
  | 48 => ⟨S64x16, .i32⟩
  | 49 => ⟨S64x16, .i32⟩
  | 50 => ⟨S64x16, .i1⟩
  | 51 => ⟨S64x16, .i32⟩
  | 52 => ⟨S_, .i32⟩
  | 53 => ⟨S64, .i32⟩
  | 54 => ⟨S_, .i32⟩
  | 55 => ⟨S64, .i32⟩
  | 56 => ⟨S64, .i1⟩
  | 57 => ⟨S_, .i32⟩
  | 58 => ⟨S64, .i32⟩
  | 59 => ⟨S64, .i32⟩
  | 60 => ⟨S64, .i32⟩
  | 61 => ⟨S64x1, .i32⟩
  | 62 => ⟨S64, .i32⟩
  | 63 => ⟨S_, .i32⟩
  | 64 => ⟨S64, .i32⟩
  | 65 => ⟨S64, .i1⟩
  | 66 => ⟨S_, .i32⟩
  | 67 => ⟨S64, .i32⟩
  | 68 => ⟨S64, .i32⟩
  | 69 => ⟨S64, .i32⟩
  | 70 => ⟨S64x1, .i32⟩
  | 71 => ⟨S64, .i32⟩
  | 72 => ⟨S64, .i32⟩
  | 73 => ⟨S64, .i32⟩
  | 74 => ⟨S65536, .i32⟩
  | 75 => ⟨S16, .i32⟩
  | 76 => ⟨S1x16, .i32⟩
  | 77 => ⟨S65536x1, .i32⟩
  | 78 => ⟨S65536x16, .i32⟩
  | 79 => ⟨S65536x16, .i32⟩
  | 80 => ⟨S65536x16, .i1⟩
  | 81 => ⟨S65536x16, .i32⟩
  | 82 => ⟨S_, .i32⟩
  | 83 => ⟨S65536, .i32⟩
  | 84 => ⟨S_, .i32⟩
  | 85 => ⟨S65536, .i32⟩
  | 86 => ⟨S65536, .i1⟩
  | 87 => ⟨S_, .i32⟩
  | 88 => ⟨S65536, .i32⟩
  | 89 => ⟨S65536, .i32⟩
  | 90 => ⟨S65536, .i32⟩
  | 91 => ⟨S65536x1, .i32⟩
  | 92 => ⟨S65536, .i32⟩
  | 93 => ⟨S_, .i32⟩
  | 94 => ⟨S65536, .i32⟩
  | 95 => ⟨S65536, .i1⟩
  | 96 => ⟨S_, .i32⟩
  | 97 => ⟨S65536, .i32⟩
  | 98 => ⟨S65536, .i32⟩
  | 99 => ⟨S65536, .i32⟩
  | 100 => ⟨S65536x1, .i32⟩
  | 101 => ⟨S65536, .i32⟩
  | 102 => ⟨S65536, .i32⟩
  | 103 => ⟨S_, .i32⟩
  | 104 => ⟨S65536, .i32⟩
  | 105 => ⟨S65536, .i1⟩
  | 106 => ⟨S_, .i32⟩
  | 107 => ⟨S65536, .i32⟩
  | 108 => ⟨S65536, .i32⟩
  | 109 => ⟨S65536, .i32⟩
  | 110 => ⟨S65536x1, .i32⟩
  | 111 => ⟨S65536, .i32⟩
  | 112 => ⟨S65536, .i32⟩
  | 113 => ⟨S65536, .i32⟩
  | 114 => ⟨S_, .f32⟩
  | 115 => ⟨S65600x512, .f32⟩
  | 116 => ⟨S_, .i32⟩
  | 117 => ⟨S64, .i32⟩
  | 118 => ⟨S64, .i1⟩
  | 119 => ⟨S_, .i32⟩
  | 120 => ⟨S64, .i32⟩
  | 121 => ⟨S64, .i32⟩
  | 122 => ⟨S64, .i32⟩
  | 123 => ⟨S64x1, .i32⟩
  | 124 => ⟨S65600x512, .f32⟩
  | 125 => ⟨S_, .i32⟩
  | 126 => ⟨S65536, .i32⟩
  | 127 => ⟨S65536, .i1⟩
  | _ => ⟨S32768x512, .f32⟩

abbrev hbmTy0_1 (i : Nat) : BufTy := match i % 128 with
  | 0 => ⟨S_, .i32⟩
  | 1 => ⟨S65536, .i32⟩
  | 2 => ⟨S65536, .i32⟩
  | 3 => ⟨S65536, .i32⟩
  | 4 => ⟨S65536x1, .i32⟩
  | 5 => ⟨S65600x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_0 : Ref sig .tc := ⟨.hbm, 52, rfl⟩
abbrev main_v26 : Ref sig .tc := ⟨.hbm, 53, rfl⟩
abbrev main_c_1 : Ref sig .tc := ⟨.hbm, 54, rfl⟩
abbrev main_v27 : Ref sig .tc := ⟨.hbm, 55, rfl⟩
abbrev main_v28 : Ref sig .tc := ⟨.hbm, 56, rfl⟩
abbrev main_c_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_3 : Ref sig .tc := ⟨.hbm, 63, rfl⟩
abbrev main_v34 : Ref sig .tc := ⟨.hbm, 64, rfl⟩
abbrev main_v35 : Ref sig .tc := ⟨.hbm, 65, rfl⟩
abbrev main_c_4 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_5 : Ref sig .tc := ⟨.hbm, 82, rfl⟩
abbrev main_v51 : Ref sig .tc := ⟨.hbm, 83, rfl⟩
abbrev main_c_6 : Ref sig .tc := ⟨.hbm, 84, rfl⟩
abbrev main_v52 : Ref sig .tc := ⟨.hbm, 85, rfl⟩
abbrev main_v53 : Ref sig .tc := ⟨.hbm, 86, rfl⟩
abbrev main_c_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_8 : Ref sig .tc := ⟨.hbm, 93, rfl⟩
abbrev main_v59 : Ref sig .tc := ⟨.hbm, 94, rfl⟩
abbrev main_v60 : Ref sig .tc := ⟨.hbm, 95, rfl⟩
abbrev main_c_9 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_10 : Ref sig .tc := ⟨.hbm, 103, rfl⟩
abbrev main_v67 : Ref sig .tc := ⟨.hbm, 104, rfl⟩
abbrev main_v68 : Ref sig .tc := ⟨.hbm, 105, rfl⟩
abbrev main_c_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst : Ref sig .tc := ⟨.hbm, 114, rfl⟩
abbrev main_v76 : Ref sig .tc := ⟨.hbm, 115, rfl⟩
abbrev main_c_12 : Ref sig .tc := ⟨.hbm, 116, rfl⟩
abbrev main_v77 : Ref sig .tc := ⟨.hbm, 117, rfl⟩
abbrev main_v78 : Ref sig .tc := ⟨.hbm, 118, rfl⟩
abbrev main_c_13 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_14 : Ref sig .tc := ⟨.hbm, 125, rfl⟩
abbrev main_v84 : Ref sig .tc := ⟨.hbm, 126, rfl⟩
abbrev main_v85 : Ref sig .tc := ⟨.hbm, 127, rfl⟩
abbrev main_c_15 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩

abbrev nD : Nat := 1
abbrev τ : Topo := Topo.v7x

variable {F : FTy → Type} [FloatOps F]
-- ==== Proof.Spec.lean ====
/-
  The function that both programs are shown to compute, written on the extended reals.

  A user `b` (of 16) owns 4100 consecutive rows of the merged array: 4 contextual rows, then 2048 pairs of rows, an
  item row and the action row at the same position.  Contextual and item rows go through one dense layer each, with
  SiLU after it; action rows are copied.
-/
module

public import Idealize.ShloMosaic.Lib.Pointwise
public import Idealize.ShloMosaic.Lib.Routing.Ops

@[expose] public section

noncomputable section

open Idealize.ShloMosaic Idealize.ShloMosaic.Routing

namespace Cert.Merge

/-- The activation `x · logistic x`. -/
def silu (x : EReal) : EReal := x * Ideal.logistic x

/-- Entry `c` of one row sent through a dense layer with SiLU: `silu (∑ k, x k · W k c + bias c)`. -/
def layer (x : Fin 512 → EReal) (W : Fin 512 → Fin 512 → EReal) (bias : Fin 512 → EReal) (c : Fin 512) : EReal :=
  silu ((∑ k : Fin 512, x k * W k c) + bias c)

/-- Row `i` of an array of `n` rows of 512 entries. -/
def row {n : Nat} (A : (shape2 n 512).Idx → EReal) (i : Fin n) : Fin 512 → EReal := fun k => A (ix2 i k)

/-- The arguments of the computation that its result depends on. -/
structure Args where
  /-- the item rows, 2048 a user -/
  item : (shape2 32768 512).Idx → EReal
  /-- the action rows, 2048 a user -/
  action : (shape2 32768 512).Idx → EReal
  /-- the contextual rows, 4 a user -/
  ctx : (shape2 64 512).Idx → EReal
  /-- the item layer's weights -/
  wItem : (shape2 512 512).Idx → EReal
  /-- the item layer's bias -/
  bItem : (shape1 512).Idx → EReal
  /-- the contextual layer's weights -/
  wCtx : (shape2 512 512).Idx → EReal
  /-- the contextual layer's bias -/
  bCtx : (shape1 512).Idx → EReal

variable (a : Args)

/-- Contextual row `i` after its layer. -/
def ctxRow (i : Fin 64) : Fin 512 → EReal :=
  layer (row a.ctx i) (fun k c => a.wCtx (ix2 k c)) (fun c => a.bCtx (ix1 c))

/-- Item row `i` after its layer. -/
def itemRow (i : Fin 32768) : Fin 512 → EReal :=
  layer (row a.item i) (fun k c => a.wItem (ix2 k c)) (fun c => a.bItem (ix1 c))

/-- Row `s` of the interleaved sequence: item row `s / 2` after its layer where `s` is even, action row `s / 2` where
    `s` is odd. -/
def seqRow (s : Nat) (hs : s < 65536) : Fin 512 → EReal :=
  if s % 2 = 0 then itemRow a ⟨s / 2, by omega⟩ else row a.action ⟨s / 2, by omega⟩

/-- Row `r` of the merged array: user `r / 4100`; its first 4 rows are that user's contextual rows, the other 4096 that
    user's stretch of the interleaved sequence. -/
def mergedRow (r : Nat) (hr : r < 65600) : Fin 512 → EReal :=
  if h : r % 4100 < 4 then ctxRow a ⟨4 * (r / 4100) + r % 4100, by omega⟩
  else seqRow a (4096 * (r / 4100) + (r % 4100 - 4)) (by omega)

/-- THE MERGED ARRAY. -/
def merged : (shape2 65600 512).Idx → EReal := fun j => mergedRow a (j 0).val (j 0).isLt (j 1)

/-! ## The merged rows of one user, by position -/

/-- The first four rows of user `b` are its contextual rows. -/
theorem mergedRow_ctx (b q r : Nat) (hb : b < 16) (hq : q < 4) (hr : r < 65600) (e : r = 4100 * b + q) :
    mergedRow a r hr = ctxRow a ⟨4 * b + q, by omega⟩ := by
  have h1 : r % 4100 = q := by omega
  have h2 : r / 4100 = b := by omega
  unfold mergedRow
  rw [dif_pos (by omega)]
  exact congrArg (ctxRow a) (Fin.ext (by dsimp only; omega))

/-- Row `4 + s` of user `b` is row `4096 b + s` of the interleaved sequence. -/
theorem mergedRow_seq (b s r : Nat) (hb : b < 16) (hs : s < 4096) (hr : r < 65600) (e : r = 4100 * b + (4 + s)) :
    mergedRow a r hr = seqRow a (4096 * b + s) (by omega) := by
  have h1 : r % 4100 = 4 + s := by omega
  have h2 : r / 4100 = b := by omega
  have congr_seq : ∀ (x y : Nat) (hx : x < 65536) (hy : y < 65536), x = y → seqRow a x hx = seqRow a y hy := by
    intro x y hx hy h; subst h; rfl
  unfold mergedRow
  rw [dif_neg (by omega)]
  exact congr_seq _ _ _ _ (by omega)

/-- The even rows after the contextual ones are item rows, -/
theorem mergedRow_item (b p r : Nat) (hb : b < 16) (hp : p < 2048) (hr : r < 65600) (e : r = 4100 * b + (4 + 2 * p)) :
    mergedRow a r hr = itemRow a ⟨2048 * b + p, by omega⟩ := by
  rw [mergedRow_seq a b (2 * p) r hb (by omega) hr e]
  unfold seqRow
  rw [if_pos (by omega)]
  exact congrArg (itemRow a) (Fin.ext (by dsimp only; omega))

/-- and the odd ones action rows. -/
theorem mergedRow_action (b p r : Nat) (hb : b < 16) (hp : p < 2048) (hr : r < 65600) (e : r = 4100 * b + (4 + (2 * p + 1))) :
    mergedRow a r hr = row a.action ⟨2048 * b + p, by omega⟩ := by
  rw [mergedRow_seq a b (2 * p + 1) r hb (by omega) hr e]
  unfold seqRow
  rw [if_neg (by omega)]
  exact congrArg (row a.action) (Fin.ext (by dsimp only; omega))

end Cert.Merge

end
-- ==== Proof.Block.lean ====
/-
The two values that the kernel's body stores at a grid point, entry by entry: the 2048 rows of pairs (item row and
action row side by side), and the two rows that hold the four contextual rows.
-/
module

public import proofs.«01_k».proof.Proof.Spec
public import proofs.«01_k».proof.Proof.Gen.KernelIdeal.Skeleton

@[expose] public section

set_option maxRecDepth 16384

noncomputable section

open Idealize.ShloMosaic Idealize.ShloMosaic.TcCoe

namespace Cert.KernelIdeal.Block

open Cert.KernelIdeal Cert.KernelIdeal.Gen Cert.Merge

/-- The 2048 rows of pairs which one grid point stores: in the left half of a row the item row through its layer, in the
    right half the action row. -/
theorem pairs_apply (x : S1x2048x512.Idx → EReal) (W : S512x512.Idx → EReal) (b : S1x512.Idx → EReal) (y : S1x2048x512.Idx → EReal)
    (p : Fin 2048) (e : Fin 1024) :
    k0_pay2 (F := Ideal) x W b y (ix2 p e)
      = if h : e.val < 512 then layer (fun k => x (ix3 0 p k)) (fun k c => W (ix2 k c)) (fun c => b (ix2 0 c)) ⟨e.val, h⟩
        else y (ix3 0 p ⟨e.val - 512, by omega⟩) := by
  unfold k0_pay2
  pointwise
  rfl

/-- The same with the leading axis of length one that the store's block has. -/
theorem pairs3_apply (v : S2048x1024.Idx → EReal) (p : Fin 2048) (e : Fin 1024) :
    k0_pay1 (F := Ideal) v (ix3 0 p e) = v (ix2 p e) := by
  unfold k0_pay1
  pointwise

/-- The two head rows which one grid point stores: half `e / 512` of row `p` is contextual row `2 p + e / 512` through its
    layer. -/
theorem head_apply (x : S1x4x512.Idx → EReal) (W : S512x512.Idx → EReal) (b : S1x512.Idx → EReal)
    (p : Fin 2) (e : Fin 1024) :
    k0_pay3 (F := Ideal) x W b (ix3 0 p e)
      = layer (fun k => x (ix3 0 ⟨2 * p.val + e.val / 512, by omega⟩ k)) (fun k c => W (ix2 k c)) (fun c => b (ix2 0 c))
          ⟨e.val % 512, by omega⟩ := by
  have at_eq : ∀ (i i' : Fin 4) (c c' : Fin 512), i.val = i'.val → c.val = c'.val →
      layer (fun k => x (ix3 0 i k)) (fun k c => W (ix2 k c)) (fun c => b (ix2 0 c)) c
        = layer (fun k => x (ix3 0 i' k)) (fun k c => W (ix2 k c)) (fun c => b (ix2 0 c)) c' := by
    intro i i' c c' hi hc
    obtain rfl := Fin.ext hi
    obtain rfl := Fin.ext hc
    rfl
  unfold k0_pay3
  pointwise
  by_cases hp : p.val < 1 <;> by_cases he : e.val < 512 <;> simp only [hp, he, ↓reduceDIte]
  all_goals exact at_eq _ _ _ _ (by dsimp only; omega) (by dsimp only; omega)

end Cert.KernelIdeal.Block

end
-- ==== Proof.Layout.lean ====
/-
  The reshapes around the kernel call, read at an index, and the merged array in the shape that the call leaves it in.
-/
module

public import proofs.«01_k».proof.Proof.Spec
public import proofs.«01_k».proof.Proof.Gen.KernelIdeal

@[expose] public section

set_option maxRecDepth 16384

noncomputable section

open Idealize.ShloMosaic Idealize.ShloMosaic.TcCoe

namespace Cert.KernelIdeal.Layout

open Cert.KernelIdeal Cert.KernelIdeal.Gen Cert.Merge

/-- 32768 rows grouped by user: row `p` of user `i` is row `2048 i + p`. -/
theorem cast_rows (A : S32768x512.Idx → EReal) (i : Fin 16) (p : Fin 2048) (k : Fin 512) :
    shapeCast S16x2048x512 A shapeCasts_S32768x512_S16x2048x512 (ix3 i p k) = A (ix2 ⟨2048 * i.val + p.val, by omega⟩ k) := by
  pointwise
  exact congrArg (fun r => A (ix2 r k)) (Fin.ext (by dsimp only; omega))

/-- 64 rows grouped by user: row `p` of user `i` is row `4 i + p`. -/
theorem cast_ctx (A : S64x512.Idx → EReal) (i : Fin 16) (p : Fin 4) (k : Fin 512) :
    shapeCast S16x4x512 A shapeCasts_S64x512_S16x4x512 (ix3 i p k) = A (ix2 ⟨4 * i.val + p.val, by omega⟩ k) := by
  pointwise
  exact congrArg (fun r => A (ix2 r k)) (Fin.ext (by dsimp only; omega))

/-- A bias vector as a matrix of one row. -/
theorem cast_bias (A : S512.Idx → EReal) (k : Fin 512) :
    shapeCast S1x512 A shapeCasts_S512_S1x512 (ix2 0 k) = A (ix1 k) := by
  pointwise

/-- The final reshape: row `r` of the merged array is half `r % 2` of row `r % 4100 / 2` of user `r / 4100`. -/
theorem cast_merged (A : S16x2050x1024.Idx → EReal) (r : Fin 65600) (k : Fin 512) :
    shapeCast S65600x512 A shapeCasts_S16x2050x1024_S65600x512 (ix2 r k)
      = A (ix3 ⟨r.val / 4100, by omega⟩ ⟨r.val / 2 % 2050, by omega⟩ ⟨r.val % 2 * 512 + k.val, by omega⟩) := by
  pointwise

/-- The merged array as the kernel call leaves it: user, pair of rows, position in the pair. -/
def laid (a : Args) : S16x2050x1024.Idx → EReal := fun j =>
  mergedRow a (4100 * (j 0).val + 2 * (j 1).val + (j 2).val / 512) (by
    have h0 : (j 0).val < 16 := (j 0).isLt
    have h1 : (j 1).val < 2050 := (j 1).isLt
    have h2 : (j 2).val < 1024 := (j 2).isLt
    omega) ⟨(j 2).val % 512, by omega⟩

/-- Reshaped, it is the merged array. -/
theorem cast_laid (a : Args) :
    shapeCast S65600x512 (laid a) shapeCasts_S16x2050x1024_S65600x512 = merged a := by
  have congr_row : ∀ (x y : Nat) (hx : x < 65600) (hy : y < 65600) (c c' : Fin 512), x = y → c.val = c'.val →
      mergedRow a x hx c = mergedRow a y hy c' := by
    intro x y hx hy c c' h hc
    subst h
    obtain rfl := Fin.ext hc
    rfl
  funext j
  idx_vars j
  rw [cast_merged]
  exact congr_row _ _ _ _ _ _ (by simp only [ix3_0, ix3_1, ix3_2, ix2_0]; omega) (by simp only [ix3_2, ix2_1]; omega)

end Cert.KernelIdeal.Layout

end
-- ==== Proof.KernelArray.lean ====
/-
  What the kernel call leaves in its result array: every grid point stores its user's rows, and the sixteen blocks are
  the whole array.
-/
module

public import proofs.«01_k».proof.Proof.Block
public import proofs.«01_k».proof.Proof.Layout
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe

namespace Cert.KernelIdeal.Result

open Cert.KernelIdeal Cert.KernelIdeal.Gen Cert.KernelIdeal.Block Cert.KernelIdeal.Layout Cert.Merge

variable (m : (ℓ : Loc nD τ sig) → Buf (Elt Ideal) ℓ)

/-- The arguments on core `c` that the result depends on. -/
def args (c : Dev nD) : Args where
  item := m ((c : Thread nD τ).loc main_arg0)
  action := m ((c : Thread nD τ).loc main_arg2)
  ctx := m ((c : Thread nD τ).loc main_arg3)
  wItem := m ((c : Thread nD τ).loc main_arg5)
  bItem := m ((c : Thread nD τ).loc main_arg6)
  wCtx := m ((c : Thread nD τ).loc main_arg7)
  bCtx := m ((c : Thread nD τ).loc main_arg8)

/-! ## The arrays that the call reads -/

/-- The item rows, grouped by user; -/
theorem entry_item (c : Dev nD) (i : Fin 16) (p : Fin 2048) (k : Fin 512) :
    V m c main_v0 (ix3 i p k) = (args m c).item (ix2 ⟨2048 * i.val + p.val, by omega⟩ k) := by
  show StableHlo.after hostOps0 _ _ _ = _
  after_results
  exact cast_rows _ i p k

/-- the action rows; -/
theorem entry_action (c : Dev nD) (i : Fin 16) (p : Fin 2048) (k : Fin 512) :
    V m c main_v1 (ix3 i p k) = (args m c).action (ix2 ⟨2048 * i.val + p.val, by omega⟩ k) := by
  show StableHlo.after hostOps0 _ _ _ = _
  after_results
  exact cast_rows _ i p k

/-- the contextual rows; -/
theorem entry_ctx (c : Dev nD) (i : Fin 16) (p : Fin 4) (k : Fin 512) :
    V m c main_v2 (ix3 i p k) = (args m c).ctx (ix2 ⟨4 * i.val + p.val, by omega⟩ k) := by
  show StableHlo.after hostOps0 _ _ _ = _
  after_results
  exact cast_ctx _ i p k

/-- the item layer's bias as one row; -/
theorem entry_bItem (c : Dev nD) (k : Fin 512) : V m c main_v3 (ix2 0 k) = (args m c).bItem (ix1 k) := by
  show StableHlo.after hostOps0 _ _ _ = _
  after_results
  exact cast_bias _ k

/-- the contextual layer's bias as one row. -/
theorem entry_bCtx (c : Dev nD) (k : Fin 512) : V m c main_v4 (ix2 0 k) = (args m c).bCtx (ix1 k) := by
  show StableHlo.after hostOps0 _ _ _ = _
  after_results
  exact cast_bias _ k

/-! ## The blocks of grid point `t`: user `t`'s rows, and the layers' parameters whole -/

theorem point_lt (t : Fin cfg0.N) : t.val < 16 := lt_of_lt_of_eq t.isLt N_0

theorem index0 : ∀ t : Fin cfg0.N, win0_0.index t = ![t.val, 0, 0] := by decide +kernel
theorem index1 : ∀ t : Fin cfg0.N, win0_1.index t = ![t.val, 0, 0] := by decide +kernel
theorem index2 : ∀ t : Fin cfg0.N, win0_2.index t = ![t.val, 0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val, 0, 0] := by decide +kernel

theorem blk_item (c : Dev nD) (t : Fin cfg0.N) (p : Fin 2048) (k : Fin 512) :
    iblk m c 0 t (ix3 0 p k) = (args m c).item (ix2 ⟨2048 * t.val + p.val, by have := point_lt t; omega⟩ k) := by
  rw [← entry_item m c ⟨t.val, point_lt t⟩ p k]
  unfold iblk
  blk_simp
  congr 1
  funext a
  match a with
  | ⟨0, _⟩ => apply Fin.ext; blk_simp [index0]; exact Nat.add_zero _
  | ⟨1, _⟩ => apply Fin.ext; blk_simp [index0]
  | ⟨2, _⟩ => apply Fin.ext; blk_simp [index0]

theorem blk_action (c : Dev nD) (t : Fin cfg0.N) (p : Fin 2048) (k : Fin 512) :
    iblk m c 1 t (ix3 0 p k) = (args m c).action (ix2 ⟨2048 * t.val + p.val, by have := point_lt t; omega⟩ k) := by
  rw [← entry_action m c ⟨t.val, point_lt t⟩ p k]
  unfold iblk
  blk_simp
  congr 1
  funext a
  match a with
  | ⟨0, _⟩ => apply Fin.ext; blk_simp [index1]; exact Nat.add_zero _
  | ⟨1, _⟩ => apply Fin.ext; blk_simp [index1]
  | ⟨2, _⟩ => apply Fin.ext; blk_simp [index1]

theorem blk_ctx (c : Dev nD) (t : Fin cfg0.N) (p : Fin 4) (k : Fin 512) :
    iblk m c 2 t (ix3 0 p k) = (args m c).ctx (ix2 ⟨4 * t.val + p.val, by have := point_lt t; omega⟩ k) := by
  rw [← entry_ctx m c ⟨t.val, point_lt t⟩ p k]
  unfold iblk
  blk_simp
  congr 1
  funext a
  match a with
  | ⟨0, _⟩ => apply Fin.ext; blk_simp [index2]; exact Nat.add_zero _
  | ⟨1, _⟩ => apply Fin.ext; blk_simp [index2]
  | ⟨2, _⟩ => apply Fin.ext; blk_simp [index2]

theorem blk_wItem (c : Dev nD) (t : Fin cfg0.N) (k e : Fin 512) : iblk m c 3 t (ix2 k e) = (args m c).wItem (ix2 k e) := by
  refine Eq.trans ?_ (congrFun (V_main_arg5 m c) (ix2 k e))
  unfold iblk
  blk_simp
  congr 1
  funext a
  match a with
  | ⟨0, _⟩ => apply Fin.ext; blk_simp [index3]
  | ⟨1, _⟩ => apply Fin.ext; blk_simp [index3]

theorem blk_bItem (c : Dev nD) (t : Fin cfg0.N) (e : Fin 512) : iblk m c 4 t (ix2 0 e) = (args m c).bItem (ix1 e) := by
  rw [← entry_bItem m c e]
  unfold iblk
  blk_simp
  congr 1
  funext a
  match a with
  | ⟨0, _⟩ => apply Fin.ext; blk_simp [index4]
  | ⟨1, _⟩ => apply Fin.ext; blk_simp [index4]

theorem blk_wCtx (c : Dev nD) (t : Fin cfg0.N) (k e : Fin 512) : iblk m c 5 t (ix2 k e) = (args m c).wCtx (ix2 k e) := by
  refine Eq.trans ?_ (congrFun (V_main_arg7 m c) (ix2 k e))
  unfold iblk
  blk_simp
  congr 1
  funext a
  match a with
  | ⟨0, _⟩ => apply Fin.ext; blk_simp [index5]
  | ⟨1, _⟩ => apply Fin.ext; blk_simp [index5]

theorem blk_bCtx (c : Dev nD) (t : Fin cfg0.N) (e : Fin 512) : iblk m c 6 t (ix2 0 e) = (args m c).bCtx (ix1 e) := by
  rw [← entry_bCtx m c e]
  unfold iblk
  blk_simp
  congr 1
  funext a
  match a with
  | ⟨0, _⟩ => apply Fin.ext; blk_simp [index6]
  | ⟨1, _⟩ => apply Fin.ext; blk_simp [index6]

/-! ## The two stores of grid point `t` -/

/-- The stored head is the four contextual rows of user `t`, two to a row; -/
theorem head_eq (c : Dev nD) (t : Fin cfg0.N) (p : Fin 2) (e : Fin 1024) :
    k0_pay3 (F := Ideal) (iblk m c 2 t) (iblk m c 5 t) (iblk m c 6 t) (ix3 0 p e)
      = laid (args m c) (ix3 ⟨t.val, point_lt t⟩ ⟨p.val, by omega⟩ e) := by
  have ht := point_lt t
  rw [head_apply]
  unfold laid
  rw [mergedRow_ctx (args m c) t.val (2 * p.val + e.val / 512) _ ht (by omega) _ (by simp only [ix3_0, ix3_1, ix3_2]; omega)]
  unfold ctxRow row
  simp only [blk_ctx, blk_wCtx, blk_bCtx]
  rfl

/-- the stored pairs are its item and action rows. -/
theorem pairs_eq (c : Dev nD) (t : Fin cfg0.N) (p : Fin 2048) (e : Fin 1024) :
    k0_pay1 (F := Ideal) (k0_pay2 (iblk m c 0 t) (iblk m c 3 t) (iblk m c 4 t) (iblk m c 1 t)) (ix3 0 p e)
      = laid (args m c) (ix3 ⟨t.val, point_lt t⟩ ⟨p.val + 2, by omega⟩ e) := by
  have ht := point_lt t
  rw [pairs3_apply, pairs_apply]
  unfold laid
  split_ifs with he
  · rw [mergedRow_item (args m c) t.val p.val _ ht p.isLt _ (by simp only [ix3_0, ix3_1, ix3_2]; omega)]
    unfold itemRow row
    simp only [blk_item, blk_wItem, blk_bItem]
    exact congrArg _ (Fin.ext (by simp only [ix3_2]; omega))
  · rw [mergedRow_action (args m c) t.val p.val _ ht p.isLt _ (by simp only [ix3_0, ix3_1, ix3_2]; omega)]
    unfold row
    rw [blk_action]
    exact congrArg (fun k => (args m c).action (ix2 _ k)) (Fin.ext (by simp only [ix3_2]; omega))

/-! ## The array -/

/-- User `i`'s rows of the laid-out array, as the block of that user. -/
def userBlock (a : Args) (i : Fin 16) : S1x2050x1024.Idx → EReal := fun y => laid a (ix3 i (y 1) (y 2))

/-- Grid point `t` leaves user `t`'s rows in its block. -/
theorem block_eq (c : Dev nD) (t : Fin cfg0.N) : outsAt0 m c t = userBlock (args m c) ⟨t.val, point_lt t⟩ := by
  unfold outsAt0
  frame_out
  funext y
  refine View.canon_apply_of_pieces (Val := Elt Ideal) (S := S1x2050x1024) (e := .f32)
    (userBlock (args m c) ⟨t.val, point_lt t⟩) _ ?_ y ?_
  · intro p hp
    simp only [List.mem_cons, List.not_mem_nil, or_false] at hp
    rcases hp with rfl | rfl
    · intro x
      obtain ⟨z, p, e, rfl⟩ : ∃ (z : Fin 1) (p : Fin 2048) (e : Fin 1024), x = ix3 z p e := ⟨x 0, x 1, x 2, eq_ix3 x⟩
      obtain rfl : z = 0 := Subsingleton.elim _ _
      refine (pairs_eq m c t p e).trans ?_
      refine congrArg₂ (fun p e => laid (args m c) (ix3 _ p e)) (Fin.ext ?_) (Fin.ext ?_)
      · show p.val + 2 = 2 + 1 * p.val
        omega
      · show e.val = 0 + 1 * e.val
        omega
    · intro x
      obtain ⟨z, p, e, rfl⟩ : ∃ (z : Fin 1) (p : Fin 2) (e : Fin 1024), x = ix3 z p e := ⟨x 0, x 1, x 2, eq_ix3 x⟩
      obtain rfl : z = 0 := Subsingleton.elim _ _
      refine (head_eq m c t p e).trans ?_
      refine congrArg₂ (fun p e => laid (args m c) (ix3 _ p e)) (Fin.ext ?_) (Fin.ext ?_)
      · show p.val = 0 + 1 * p.val
        omega
      · show e.val = 0 + 1 * e.val
        omega
  · have h0 : (y 0).val < 1 := (y 0).isLt
    have h1 : (y 1).val < 2050 := (y 1).isLt
    have h2 : (y 2).val < 1024 := (y 2).isLt
    by_cases h : (y 1).val < 2
    · refine ⟨_, List.mem_cons_of_mem _ (List.mem_singleton_self _), ?_⟩
      rw [Rect.mem_set_unit]
      intro a
      match a with
      | ⟨0, _⟩ => exact ⟨Nat.zero_le _, by show (y 0).val < 0 + 1; omega⟩
      | ⟨1, _⟩ => exact ⟨Nat.zero_le _, by show (y 1).val < 0 + 2; omega⟩
      | ⟨2, _⟩ => exact ⟨Nat.zero_le _, by show (y 2).val < 0 + 1024; omega⟩
    · refine ⟨_, List.mem_cons_self, ?_⟩
      rw [Rect.mem_set_unit]
      intro a
      match a with
      | ⟨0, _⟩ => exact ⟨Nat.zero_le _, by show (y 0).val < 0 + 1; omega⟩
      | ⟨1, _⟩ => exact ⟨by show 2 ≤ (y 1).val; omega, by show (y 1).val < 2 + 2048; omega⟩
      | ⟨2, _⟩ => exact ⟨Nat.zero_le _, by show (y 2).val < 0 + 1024; omega⟩

/-- THE RESULT ARRAY of the call. -/
theorem final (c : Dev nD) : (dats m 0 c).arrAt 7 cfg0.N = laid (args m c) := by
  refine (dats m 0 c).arrAt_eq_of_covers 7 _ (by decide +kernel) fun t hf y => ?_
  blk_simp
  rw [after0_7, block_eq]
  unfold userBlock
  congr 1
  funext a
  match a with
  | ⟨0, _⟩ =>
    apply Fin.ext
    blk_simp [index7]
  | ⟨1, _⟩ => apply Fin.ext; blk_simp [index7]; rfl
  | ⟨2, _⟩ => apply Fin.ext; blk_simp [index7]; rfl

end Cert.KernelIdeal.Result

end
-- ==== Proof.KernelRun.lean ====
/-
  The kernel program's run: its result is the merged array of its arguments, which end as they were.
-/
module

public import proofs.«01_k».proof.Proof.KernelArray

@[expose] public section

set_option maxRecDepth 16384

noncomputable section

open Idealize.ShloMosaic Idealize.ShloMosaic.TcCoe Idealize.SL.Sem

namespace Cert.KernelIdeal.Result

open Cert.KernelIdeal Cert.KernelIdeal.Gen Cert.KernelIdeal.Layout Cert.Merge

variable (m : (ℓ : Loc nD τ sig) → Buf (Elt Ideal) ℓ) (ρ : Dev nD → PrngReg)

/-- What the program's last line leaves in the result: the call's array, reshaped. -/
theorem tail_result (c : Dev nD) :
    Pipeline.afterTail₀ cfgs (dats m) 0 (V0 m) [hostOps1] c main_v6 = merged (args m c) := by
  have array : Pipeline.withArrays (cfgs 0).spec c (V0 m c) (fun w => (dats m 0 c).arrAt w (cfgs 0).N) (Proc.devRef .tc main_v5)
      = laid (args m c) :=
    (Pipeline.withArrays_arr spec0 (by decide) c (V0 m c) (fun w => (dats m 0 c).arrAt w (cfgs 0).N) 7).trans (final m c)
  rw [← cast_laid, ← array]
  unfold Pipeline.afterTail₀
  show StableHlo.after hostOps1 _ _ = _
  after_results
  rfl

/-- THE RUN: it ends with the merged array in the result and the arguments unchanged. -/
theorem run : θ_run defs (onTc (τ := τ) (main (F := Ideal))) ⟨m, fun _ => 0, ρ⟩ fun r => ∀ c : Dev nD,
      r.2.mem ((c : Thread nD τ).loc main_v6) = merged (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono
    (fun _ h c => ⟨((h.1 c).2 main_v6 (Pipeline.mem_restRefs_of main_v6 (by decide) (by decide))).trans (tail_result m c), h.2 c⟩)
    (θ_run_and (run_main m ρ) (unchanged m ρ))

end Cert.KernelIdeal.Result

end
-- ==== Proof.RefTerm.lean ====
/-
The reference's result taken apart: the words that say where each row goes, the rows that are written, and the two
writes one after the other.
-/
module

public import proofs.«01_k».proof.Proof.Gen.ReferenceIdeal.Run
public import proofs.«01_k».proof.Proof.Spec

@[expose] public section

set_option maxRecDepth 16384

noncomputable section

open Idealize.ShloMosaic Idealize.ShloMosaic.TcCoe

namespace Cert.ReferenceIdeal.Term

open Cert.ReferenceIdeal Cert.ReferenceIdeal.Gen

/-! ## Words -/

/-- The item offsets doubled: where each user's stretch of the interleaved sequence begins. -/
def doubled (o1 : IVec S17 32) : IVec S17 32 := muli o1 (broadcastInDim S17 ![] bcast_S_S17 (constantI S_ 32 2#32))

/-- The user that each contextual row belongs to. -/
def ownerCtx (o : IVec S17 32) : IVec S64 32 :=
  Host.reduce IntOp.addi (extui 32 (cmpi .sle (broadcastInDim S64x16 ![0, 1] bcast_S1x16_S64x16_0_1 (broadcastInDim S1x16 ![1] bcast_S16_S1x16_1 (extractStridedSlice S16 ![1] o slices_S17_S16_1)))
    (broadcastInDim S64x16 ![0, 1] bcast_S64x1_S64x16_0_1 (broadcastInDim S64x1 ![0] bcast_S64_S64x1_0 (iotaInDim S64 32 0)))) natLt_1_32) (constantI S_ 32 0#32) reducesTo_S64x16_S64_d1 h_S_

/-- The user that each row of the interleaved sequence belongs to. -/
def ownerSeq (o : IVec S17 32) : IVec S65536 32 :=
  Host.reduce IntOp.addi (extui 32 (cmpi .sle (broadcastInDim S65536x16 ![0, 1] bcast_S1x16_S65536x16_0_1 (broadcastInDim S1x16 ![1] bcast_S16_S1x16_1 (extractStridedSlice S16 ![1] o slices_S17_S16_1)))
    (broadcastInDim S65536x16 ![0, 1] bcast_S65536x1_S65536x16_0_1 (broadcastInDim S65536x1 ![0] bcast_S65536_S65536x1_0 (iotaInDim S65536 32 0)))) natLt_1_32) (constantI S_ 32 0#32) reducesTo_S65536x16_S65536_d1 h_S_

/-- A vector of 64 words as a column of places, negative words moved up by `A`. -/
def placeCtx (x : IVec S64 32) (A : BitVec 32) : IVec S64x1 32 :=
  broadcastInDim S64x1 ![0] bcast_S64_S64x1_0 (select (cmpi .slt x (broadcastInDim S64 ![] bcast_S_S64 (constantI S_ 32 0#32)))
    (addi x (broadcastInDim S64 ![] bcast_S_S64 (constantI S_ 32 A))) x)

/-- The same of 65536 words. -/
def placeSeq (x : IVec S65536 32) (A : BitVec 32) : IVec S65536x1 32 :=
  broadcastInDim S65536x1 ![0] bcast_S65536_S65536x1_0 (select (cmpi .slt x (broadcastInDim S65536 ![] bcast_S_S65536 (constantI S_ 32 0#32)))
    (addi x (broadcastInDim S65536 ![] bcast_S_S65536 (constantI S_ 32 A))) x)

/-- The row of the merged array that each contextual row goes to. -/
def dstCtx (o1 o4 : IVec S17 32) : IVec S64 32 :=
  addi (Host.gather gather_S17_S64x1_S64_n_0_n_n_0_1_1 (addi o4 (doubled o1)) (placeCtx (ownerCtx o4) 17#32))
    (subi (iotaInDim S64 32 0) (Host.gather gather_S17_S64x1_S64_n_0_n_n_0_1_1 o4 (placeCtx (ownerCtx o4) 17#32)))

/-- The row of the merged array that each row of the interleaved sequence goes to. -/
def dstSeq (o1 o4 : IVec S17 32) : IVec S65536 32 :=
  addi
    (addi (Host.gather gather_S17_S65536x1_S65536_n_0_n_n_0_1_1 (addi o4 (doubled o1)) (placeSeq (ownerSeq (doubled o1)) 17#32))
      (Host.gather gather_S16_S65536x1_S65536_n_0_n_n_0_1_1 (subi (extractStridedSlice S16 ![1] o4 slices_S17_S16_1) (extractStridedSlice S16 ![0] o4 slices_S17_S16_0))
        (placeSeq (ownerSeq (doubled o1)) 16#32)))
    (subi (iotaInDim S65536 32 0) (Host.gather gather_S17_S65536x1_S65536_n_0_n_n_0_1_1 (doubled o1) (placeSeq (ownerSeq (doubled o1)) 17#32)))

/-! ## Rows -/

/-- The contextual rows through their layer, before the activation. -/
def linCtx (x : FVec Ideal S64x512 .f32) (W : FVec Ideal S512x512 .f32) (b : FVec Ideal S512 .f32) : FVec Ideal S64x512 .f32 :=
  addf (Host.dotGeneral dot_S64x512_S512x512_S64x512_1_0_0_1_n_n none x W)
    (broadcastInDim S64x512 ![0, 1] bcast_S1x512_S64x512_0_1 (broadcastInDim S1x512 ![1] bcast_S512_S1x512_1 b))

/-- The activation of the contextual rows. -/
def actCtx (z : FVec Ideal S64x512 .f32) : FVec Ideal S64x512 .f32 :=
  mulf z (Host.divf (broadcastInDim S64x512 ![] bcast_S_S64x512 (constant S_ .f32 0x3F800000#32))
    (addf (broadcastInDim S64x512 ![] bcast_S_S64x512 (constant S_ .f32 0x3F800000#32)) (Host.exp (Host.negf z))))

/-- The item rows through their layer, before the activation. -/
def linItem (x : FVec Ideal S32768x512 .f32) (W : FVec Ideal S512x512 .f32) (b : FVec Ideal S512 .f32) : FVec Ideal S32768x512 .f32 :=
  addf (Host.dotGeneral dot_S32768x512_S512x512_S32768x512_1_0_0_1_n_n none x W)
    (broadcastInDim S32768x512 ![0, 1] bcast_S1x512_S32768x512_0_1 (broadcastInDim S1x512 ![1] bcast_S512_S1x512_1 b))

/-- The activation of the item rows. -/
def actItem (z : FVec Ideal S32768x512 .f32) : FVec Ideal S32768x512 .f32 :=
  mulf z (Host.divf (broadcastInDim S32768x512 ![] bcast_S_S32768x512 (constant S_ .f32 0x3F800000#32))
    (addf (broadcastInDim S32768x512 ![] bcast_S_S32768x512 (constant S_ .f32 0x3F800000#32)) (Host.exp (Host.negf z))))

/-- Two arrays of rows interleaved: a row of the first, the same row of the second, and so on. -/
def interleave (x y : FVec Ideal S32768x512 .f32) : FVec Ideal S65536x512 .f32 :=
  shapeCast _ (concatenate S32768x1024 1 [⟨S32768x512, x⟩, ⟨S32768x512, y⟩] concatenates_S32768x512_S32768x512_S32768x1024_d1)
    shapeCasts_S32768x1024_S65536x512

/-! ## The writes -/

/-- The zeros that the writes start from. -/
def zeros : FVec Ideal S65600x512 .f32 := broadcastInDim S65600x512 ![] bcast_S_S65600x512 (constant S_ .f32 0x00000000#32)

/-- The contextual rows written. -/
def writeCtx (o1 o4 : IVec S17 32) (x : FVec Ideal S65600x512 .f32) (rows : FVec Ideal S64x512 .f32) : FVec Ideal S65600x512 .f32 :=
  Host.scatter scatter_S65600x512_S64x1_S64x512_1_0_0_1 (fun _ b => b) x (placeCtx (dstCtx o1 o4) 65600#32) rows

/-- The rows of the interleaved sequence written. -/
def writeSeq (o1 o4 : IVec S17 32) (x : FVec Ideal S65600x512 .f32) (rows : FVec Ideal S65536x512 .f32) : FVec Ideal S65600x512 .f32 :=
  Host.scatter scatter_S65600x512_S65536x1_S65536x512_1_0_0_1 (fun _ b => b) x (placeSeq (dstSeq o1 o4) 65600#32) rows

/-- The reference's result is the two writes, one after the other. -/
theorem result_eq (m : (ℓ : Loc nD τ sig) → Buf (Elt Ideal) ℓ) (c : Dev nD) :
    Value.res_main_v90 (F := Ideal) m c
      = writeSeq (m ((c.tc : Thread nD τ).loc main_arg1)) (m ((c.tc : Thread nD τ).loc main_arg4))
          (writeCtx (m ((c.tc : Thread nD τ).loc main_arg1)) (m ((c.tc : Thread nD τ).loc main_arg4)) zeros
            (actCtx (linCtx (m ((c.tc : Thread nD τ).loc main_arg3)) (m ((c.tc : Thread nD τ).loc main_arg7)) (m ((c.tc : Thread nD τ).loc main_arg8)))))
          (interleave
            (actItem (linItem (m ((c.tc : Thread nD τ).loc main_arg0)) (m ((c.tc : Thread nD τ).loc main_arg5)) (m ((c.tc : Thread nD τ).loc main_arg6))))
            (m ((c.tc : Thread nD τ).loc main_arg2))) := rfl

end Cert.ReferenceIdeal.Term

end
-- ==== Proof.Words.lean ====
/-
Row numbers held in 32-bit words: which segment a row belongs to, counted from the segments' end offsets, and the
words from which a row number is put together. All segments have the same length.
-/
module

public import Idealize.ShloMosaic.Lib.Routing.OpsSearch
public import Idealize.ShloMosaic.Lib.Routing.OpsSet

@[expose] public section

namespace Cert.Words

open Idealize.ShloMosaic
open Idealize.ShloMosaic.Routing (shape0 shape1 shape2)

/-- Of the first `m` ends `K, 2 K, 3 K, …` of segments of length `K`, `min m (i / K)` are at most `i`. -/
theorem count_ends {K : Nat} (hK : 0 < K) (i m : Nat) : Nat.count (fun q => K * (q + 1) ≤ i) m = min m (i / K) := by
  induction m with
  | zero => rw [Nat.count_zero, Nat.zero_min]
  | succ m ih =>
    have h : K * (m + 1) ≤ i ↔ m + 1 ≤ i / K := by rw [Nat.le_div_iff_mul_le hK, Nat.mul_comm]
    rw [Nat.count_succ, ih]
    by_cases hm : K * (m + 1) ≤ i
    · rw [if_pos hm]
      have := h.1 hm
      omega
    · rw [if_neg hm]
      have : ¬ m + 1 ≤ i / K := fun e => hm (h.2 e)
      omega

/-- Two words that hold `a` and `b ≤ a` differ by the word that holds `a - b`. -/
theorem sub_words (a b : Nat) (hb : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega

/-- The words that hold `a` and `b` add up to the word that holds `a + b`. -/
theorem add_words (a b : Nat) : BitVec.ofNat 32 a + BitVec.ofNat 32 b = BitVec.ofNat 32 (a + b) :=
  (BitVec.ofNat_add a b).symm

/-- The words that hold `a` and `b` multiply to the word that holds `a * b`. -/
theorem mul_words (a b : Nat) : BitVec.ofNat 32 a * BitVec.ofNat 32 b = BitVec.ofNat 32 (a * b) :=
  (BitVec.ofNat_mul a b).symm

/-- Row `i` of `n` belongs to segment `i / K`: the number of segments whose end is at most `i`, where 16 segments of
    length `K` begin at the offsets `off`. -/
theorem owner {n K : Nat} (hK : 0 < K) (hn : n ≤ 16 * K) (h31 : 16 * K < 2 ^ 31) (off : IVec (shape1 17) 32)
    (hoff : ∀ k : Fin 17, off (ValueIdx.ix1 k) = BitVec.ofNat 32 (K * k.val))
    (hs : (shape1 17).Slices ![1] (shape1 16))
    (h1 : (shape1 16).BroadcastsInDim (shape2 1 16) (![1] : Fin 1 → Fin (shape2 1 16).rank))
    (h2 : (shape2 1 16).BroadcastsInDim (shape2 n 16) (![0, 1] : Fin 2 → Fin (shape2 n 16).rank))
    (h3 : (shape1 n).BroadcastsInDim (shape2 n 1) (![0] : Fin 1 → Fin (shape2 n 1).rank))
    (h4 : (shape2 n 1).BroadcastsInDim (shape2 n 16) (![0, 1] : Fin 2 → Fin (shape2 n 16).rank))
    (hw : 1 < 32) (hr : (shape2 n 16).ReducesTo [1] (shape1 n)) (hu : 0 < shape0.numel) (i : Fin n) :
    Host.reduce IntOp.addi (extui 32 (cmpi .sle
        (broadcastInDim (shape2 n 16) ![0, 1] h2 (broadcastInDim (shape2 1 16) ![1] h1 (extractStridedSlice (shape1 16) ![1] off hs)))
        (broadcastInDim (shape2 n 16) ![0, 1] h4 (broadcastInDim (shape2 n 1) ![0] h3 (iotaInDim (shape1 n) 32 0)))) hw)
      (constantI shape0 32 0#32) hr hu (ValueIdx.ix1 i) = BitVec.ofNat 32 (i.val / K) := by
  have hi := i.isLt
  rw [Routing.reduce_count (by norm_num) _ hw hr hu i (fun q => K * (q + 1) ≤ i.val) fun q => ?_, count_ends hK]
  · have : i.val / K < 16 := by rw [Nat.div_lt_iff_lt_mul hK]; omega
    rw [Nat.min_eq_right (by omega)]
  · have hq := q.isLt
    have hb : K * (q.val + 1) ≤ 16 * K := by rw [Nat.mul_comm]; exact Nat.mul_le_mul_right K (by omega)
    unfold cmpi
    rw [Routing.bcCols, Routing.bcRows, Routing.slice1 1 off hs q (by omega), hoff]
    show BitVec.ofBool ((BitVec.ofNat 32 (K * (1 + q.val))).sle (BitVec.ofNat 32 i.val)) = 1#1 ↔ _
    rw [Nat.add_comm 1, StableHlo.Predicate.sle_ofNat_iff _ _ (by omega) (by omega)]

/-- The column of places made of a vector of words, negative ones moved up by `A`: a word that holds a number below
    `2 ^ 31` is its own place. -/
theorem place {n : Nat} (x : IVec (shape1 n) 32) (A : BitVec 32)
    (hb : shape0.BroadcastsInDim (shape1 n) (![] : Fin 0 → Fin (shape1 n).rank))
    (hc : (shape1 n).BroadcastsInDim (shape2 n 1) (![0] : Fin 1 → Fin (shape2 n 1).rank)) (i : Fin n) (v : Nat) (hv : v < 2 ^ 31)
    (hx : x (ValueIdx.ix1 i) = BitVec.ofNat 32 v) :
    broadcastInDim (shape2 n 1) ![0] hc (select (cmpi .slt x (broadcastInDim (shape1 n) ![] hb (constantI shape0 32 0#32)))
      (addi x (broadcastInDim (shape1 n) ![] hb (constantI shape0 32 A))) x) (ValueIdx.ix2 i (0 : Fin 1)) = BitVec.ofNat 32 v := by
  rw [Routing.bcCol]
  unfold select cmpi
  rw [Routing.bc0]
  refine (Routing.wrap_of_lt (x (ValueIdx.ix1 i)) _ ?_).trans hx
  rw [hx, BitVec.toNat_ofNat]
  omega

end Cert.Words
-- ==== Proof.RefWords.lean ====
/-
Where the reference sends each row, when every user has 4 contextual rows and 2048 items.
-/
module

public import proofs.«01_k».proof.Proof.RefTerm
public import proofs.«01_k».proof.Proof.Words

@[expose] public section

set_option maxRecDepth 16384

namespace Cert.ReferenceIdeal.Term

open Cert.ReferenceIdeal Cert.ReferenceIdeal.Gen Idealize.ShloMosaic

variable (o1 o4 : IVec S17 32)

/-- The word `k` of the doubled item offsets holds `4096 k`. -/
theorem doubled_apply (h1 : ∀ k : Fin 17, o1 (ValueIdx.ix1 k) = BitVec.ofNat 32 (2048 * k.val)) (k : Fin 17) :
    doubled o1 (ValueIdx.ix1 k) = BitVec.ofNat 32 (4096 * k.val) := by
  unfold doubled muli
  rw [Routing.bc0, h1]
  show BitVec.ofNat 32 (2048 * k.val) * BitVec.ofNat 32 2 = _
  rw [Words.mul_words]
  exact congrArg _ (by omega)

/-- Contextual row `i` belongs to user `i / 4`. -/
theorem ownerCtx_apply (h4 : ∀ k : Fin 17, o4 (ValueIdx.ix1 k) = BitVec.ofNat 32 (4 * k.val)) (i : Fin 64) :
    ownerCtx o4 (ValueIdx.ix1 i) = BitVec.ofNat 32 (i.val / 4) :=
  Words.owner (by norm_num) (by norm_num) (by norm_num) o4 h4 _ _ _ _ _ _ _ _ i

/-- Row `i` of the interleaved sequence belongs to user `i / 4096`. -/
theorem ownerSeq_apply (o : IVec S17 32) (h : ∀ k : Fin 17, o (ValueIdx.ix1 k) = BitVec.ofNat 32 (4096 * k.val)) (i : Fin 65536) :
    ownerSeq o (ValueIdx.ix1 i) = BitVec.ofNat 32 (i.val / 4096) :=
  Words.owner (by norm_num) (by norm_num) (by norm_num) o h _ _ _ _ _ _ _ _ i

/-- A word of 64 that holds a number below `2 ^ 31` is its own place. -/
theorem placeCtx_apply (x : IVec S64 32) (A : BitVec 32) (i : Fin 64) (v : Nat) (hv : v < 2 ^ 31) (hx : x (ValueIdx.ix1 i) = BitVec.ofNat 32 v) :
    placeCtx x A (ValueIdx.ix2 i (0 : Fin 1)) = BitVec.ofNat 32 v :=
  Words.place x A _ _ i v hv hx

/-- A word of 65536 that holds a number below `2 ^ 31` is its own place. -/
theorem placeSeq_apply (x : IVec S65536 32) (A : BitVec 32) (i : Fin 65536) (v : Nat) (hv : v < 2 ^ 31) (hx : x (ValueIdx.ix1 i) = BitVec.ofNat 32 v) :
    placeSeq x A (ValueIdx.ix2 i (0 : Fin 1)) = BitVec.ofNat 32 v :=
  Words.place x A _ _ i v hv hx

variable (h1 : ∀ k : Fin 17, o1 (ValueIdx.ix1 k) = BitVec.ofNat 32 (2048 * k.val))
  (h4 : ∀ k : Fin 17, o4 (ValueIdx.ix1 k) = BitVec.ofNat 32 (4 * k.val))

include h1 h4

/-- User `k`'s rows of the merged array begin at `4100 k`. -/
theorem begins_apply (k : Fin 17) : addi o4 (doubled o1) (ValueIdx.ix1 k) = BitVec.ofNat 32 (4100 * k.val) := by
  show o4 (ValueIdx.ix1 k) + doubled o1 (ValueIdx.ix1 k) = _
  rw [h4, doubled_apply o1 h1, Words.add_words]
  exact congrArg _ (by omega)

/-- Contextual row `i` goes to row `4100 (i / 4) + i % 4`. -/
theorem dstCtx_apply (i : Fin 64) : dstCtx o1 o4 (ValueIdx.ix1 i) = BitVec.ofNat 32 (4100 * (i.val / 4) + i.val % 4) := by
  have hi := i.isLt
  have hp : placeCtx (ownerCtx o4) 17#32 (ValueIdx.ix2 i (0 : Fin 1)) = BitVec.ofNat 32 (i.val / 4) :=
    placeCtx_apply _ _ i _ (by omega) (ownerCtx_apply o4 h4 i)
  have ha := Routing.take_ap gather_S17_S64x1_S64_n_0_n_n_0_1_1 rfl rfl rfl rfl (addi o4 (doubled o1)) _ i (by omega) (by omega) hp
  have hb := Routing.take_ap gather_S17_S64x1_S64_n_0_n_n_0_1_1 rfl rfl rfl rfl o4 _ i (by omega) (by omega) hp
  show Host.gather gather_S17_S64x1_S64_n_0_n_n_0_1_1 (addi o4 (doubled o1)) _ (ValueIdx.ix1 i)
    + (BitVec.ofNat 32 i.val - Host.gather gather_S17_S64x1_S64_n_0_n_n_0_1_1 o4 _ (ValueIdx.ix1 i)) = _
  rw [ha, hb, begins_apply o1 o4 h1 h4, h4, Words.sub_words _ _ (by dsimp only; omega) (by omega), Words.add_words]
  exact congrArg _ (by dsimp only; omega)

/-- Every user has 4 contextual rows. -/
theorem lengths_apply (k : Fin 16) :
    subi (extractStridedSlice S16 ![1] o4 slices_S17_S16_1) (extractStridedSlice S16 ![0] o4 slices_S17_S16_0) (ValueIdx.ix1 k)
      = BitVec.ofNat 32 4 := by
  have hk := k.isLt
  show extractStridedSlice S16 ![1] o4 slices_S17_S16_1 (ValueIdx.ix1 k) - extractStridedSlice S16 ![0] o4 slices_S17_S16_0 (ValueIdx.ix1 k) = _
  rw [Routing.slice1 1 o4 slices_S17_S16_1 k (by omega), Routing.slice1 0 o4 slices_S17_S16_0 k (by omega), h4, h4,
    Words.sub_words _ _ (by dsimp only; omega) (by dsimp only; omega)]
  exact congrArg _ (by dsimp only; omega)

/-- Row `i` of the interleaved sequence goes to row `4100 (i / 4096) + (4 + i % 4096)`. -/
theorem dstSeq_apply (i : Fin 65536) :
    dstSeq o1 o4 (ValueIdx.ix1 i) = BitVec.ofNat 32 (4100 * (i.val / 4096) + (4 + i.val % 4096)) := by
  have hi := i.isLt
  have ho := ownerSeq_apply (doubled o1) (doubled_apply o1 h1) i
  have hp : placeSeq (ownerSeq (doubled o1)) 17#32 (ValueIdx.ix2 i (0 : Fin 1)) = BitVec.ofNat 32 (i.val / 4096) :=
    placeSeq_apply _ _ i _ (by omega) ho
  have hq : placeSeq (ownerSeq (doubled o1)) 16#32 (ValueIdx.ix2 i (0 : Fin 1)) = BitVec.ofNat 32 (i.val / 4096) :=
    placeSeq_apply _ _ i _ (by omega) ho
  have ha := Routing.take_ap gather_S17_S65536x1_S65536_n_0_n_n_0_1_1 rfl rfl rfl rfl (addi o4 (doubled o1)) _ i (by omega) (by omega) hp
  have hb := Routing.take_ap gather_S16_S65536x1_S65536_n_0_n_n_0_1_1 rfl rfl rfl rfl
    (subi (extractStridedSlice S16 ![1] o4 slices_S17_S16_1) (extractStridedSlice S16 ![0] o4 slices_S17_S16_0)) _ i (by omega) (by omega) hq
  have hc := Routing.take_ap gather_S17_S65536x1_S65536_n_0_n_n_0_1_1 rfl rfl rfl rfl (doubled o1) _ i (by omega) (by omega) hp
  show Host.gather gather_S17_S65536x1_S65536_n_0_n_n_0_1_1 (addi o4 (doubled o1)) _ (ValueIdx.ix1 i)
    + Host.gather gather_S16_S65536x1_S65536_n_0_n_n_0_1_1
      (subi (extractStridedSlice S16 ![1] o4 slices_S17_S16_1) (extractStridedSlice S16 ![0] o4 slices_S17_S16_0)) _ (ValueIdx.ix1 i)
    + (BitVec.ofNat 32 i.val - Host.gather gather_S17_S65536x1_S65536_n_0_n_n_0_1_1 (doubled o1) _ (ValueIdx.ix1 i)) = _
  rw [ha, hb, hc, begins_apply o1 o4 h1 h4, lengths_apply o1 o4 h1 h4, doubled_apply o1 h1,
    Words.sub_words _ _ (by dsimp only; omega) (by omega), Words.add_words, Words.add_words]
  exact congrArg _ (by dsimp only; omega)

end Cert.ReferenceIdeal.Term
-- ==== Proof.RefRows.lean ====
/-
The rows that the reference writes, entry by entry: the contextual rows through their layer, and the interleaved
sequence of item rows through theirs and action rows.
-/
module

public import proofs.«01_k».proof.Proof.RefTerm

@[expose] public section

set_option maxRecDepth 16384

noncomputable section

open Idealize.ShloMosaic Idealize.ShloMosaic.TcCoe

namespace Cert.ReferenceIdeal.Term

open Cert.ReferenceIdeal Cert.ReferenceIdeal.Gen Cert.Merge

/-- The activation as the reference writes it, `z · (1 / (1 + exp (-z)))`, is `silu`. -/
theorem silu_written (z : EReal) : z * Ideal.div 1 (1 + Ideal.exp (-z)) = silu z := rfl

/-- Entry `(i, e)` of the contextual rows through their layer. -/
theorem ctx_apply (x : FVec Ideal S64x512 .f32) (W : FVec Ideal S512x512 .f32) (b : FVec Ideal S512 .f32) (i : Fin 64) (e : Fin 512) :
    actCtx (linCtx x W b) (ix2 i e) = layer (row x i) (fun k c => W (ix2 k c)) (fun c => b (ix1 c)) e := by
  have hz : linCtx x W b (ix2 i e) = (∑ k : Fin 512, row x i k * W (ix2 k e)) + b (ix1 e) := by
    unfold linCtx
    pointwise
    rfl
  unfold layer
  rw [← hz]
  generalize linCtx x W b = z
  unfold actCtx
  pointwise
  exact silu_written _

/-- Entry `(i, e)` of the item rows through their layer. -/
theorem item_apply (x : FVec Ideal S32768x512 .f32) (W : FVec Ideal S512x512 .f32) (b : FVec Ideal S512 .f32) (i : Fin 32768) (e : Fin 512) :
    actItem (linItem x W b) (ix2 i e) = layer (row x i) (fun k c => W (ix2 k c)) (fun c => b (ix1 c)) e := by
  have hz : linItem x W b (ix2 i e) = (∑ k : Fin 512, row x i k * W (ix2 k e)) + b (ix1 e) := by
    unfold linItem
    pointwise
    rfl
  unfold layer
  rw [← hz]
  generalize linItem x W b = z
  unfold actItem
  pointwise
  exact silu_written _

/-- Row `s` of two arrays interleaved: row `s / 2` of the first where `s` is even, of the second where `s` is odd. -/
theorem interleave_apply (x y : FVec Ideal S32768x512 .f32) (s : Fin 65536) (e : Fin 512) :
    interleave x y (ix2 s e) = if s.val % 2 = 0 then x (ix2 ⟨s.val / 2, by omega⟩ e) else y (ix2 ⟨s.val / 2, by omega⟩ e) := by
  unfold interleave
  pointwise
  by_cases hs : s.val % 2 = 0
  · rw [if_pos hs, dif_pos (by omega)]
    exact congrArg (fun c => x (ix2 _ c)) (Fin.ext (by dsimp only; omega))
  · rw [if_neg hs, dif_neg (by omega)]
    exact congrArg (fun c => y (ix2 _ c)) (Fin.ext (by dsimp only; omega))

end Cert.ReferenceIdeal.Term

end
-- ==== Proof.RowScatter.lean ====
/-
Writing rows of a matrix: a scatter of the rows of an [N, C] array into an [R, C] array, row i going to
the place that one index word names, read at an entry of the result.
-/
module

public import Idealize.ShloMosaic.Lib.Routing.OpsSearch
public import Idealize.ShloMosaic.Lib.Routing.OpsSet

@[expose] public section

namespace Cert.RowScatter

open Idealize.ShloMosaic
open Idealize.ShloMosaic.Routing (shape1 shape2)

section

variable {R C N : Nat} (d : ScatterDims (shape2 R C) (shape2 N 1) (shape2 N C))

/-- Entry `j` of update row `i` lands at `(r, c)` exactly when the index word of row `i`, read signed, is `r`, and `j` is the column `c`. -/
theorem lands (huw : d.updateWindowDims = [1]) (hiw : d.insertedWindowDims = [0]) (hsd : d.scatterDimsToOperandDims = [0])
    (hivd : d.indexVectorDim = 1) {w : Nat} (idx : IVec (shape2 N 1) w) (i : Fin N) (j : Fin C) (r : Fin R) (c : Fin C) :
    d.resultIdx? (ValueIdx.ix2 i j) idx = some (ValueIdx.ix2 r c)
      ↔ (idx (ValueIdx.ix2 i (0 : Fin 1))).toInt = (r.val : Int) ∧ j = c := by
  have only : ∀ (l : List (Fin 2)) (n : ℕ) (h : n < l.length) (q : Fin 2), l = [q] → l[n]'h = q := by
    intro l n h q hl
    subst hl
    have h0 : n = 0 := by simpa using h
    subst h0
    rfl
  have hus : d.uScatter = [0] := by
    show (shape2 N C).kept d.updateWindowDims = _
    rw [huw]
    rfl
  have hwin0 : d.window (ValueIdx.ix2 i j) 0 = 0 := by
    unfold ScatterDims.window
    rw [dif_neg fun h => (of_decide_eq_true (List.mem_filter.1 h).2) (by rw [hiw]; simp)]
  have hkept : d.sKept = [1] := by
    show (shape2 R C).kept d.insertedWindowDims = _
    rw [hiw]
    rfl
  have hwin1 : d.window (ValueIdx.ix2 i j) 1 = j.val := by
    unfold ScatterDims.window
    rw [dif_pos (show (1 : Fin 2) ∈ d.sKept by rw [hkept]; exact List.mem_singleton.2 rfl)]
    rw [only _ _ _ 1 huw]
  have hm : (0 : Fin 2) ∈ d.scatterDimsToOperandDims := by rw [hsd]; exact List.mem_singleton.2 rfl
  have hsi : d.siIdx (ValueIdx.ix2 i j) ⟨d.scatterDimsToOperandDims.idxOf 0, List.idxOf_lt_length_iff.2 hm⟩
      = ValueIdx.ix2 i (0 : Fin 1) := by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      rw [only _ _ _ 0 hus]
    | ⟨1, _⟩ =>
      unfold ScatterDims.siIdx
      rw [dif_pos (by rw [hivd])]
      show List.idxOf 0 d.scatterDimsToOperandDims = 0
      rw [hsd]
      rfl
  have hs0 : d.start (ValueIdx.ix2 i j) idx 0 = (idx (ValueIdx.ix2 i (0 : Fin 1))).toInt := by
    unfold ScatterDims.start
    rw [dif_pos hm, hsi]
  have hs1 : d.start (ValueIdx.ix2 i j) idx 1 = 0 := by
    unfold ScatterDims.start
    rw [dif_neg (show ¬ (1 : Fin 2) ∈ d.scatterDimsToOperandDims by rw [hsd]; simp)]
  rw [Routing.resultIdx?_ix2, hs0, hs1, hwin0, hwin1]
  have := j.isLt
  have := c.isLt
  constructor
  · rintro ⟨h, h'⟩
    exact ⟨by omega, Fin.ext (by omega)⟩
  · rintro ⟨h, rfl⟩
    exact ⟨by omega, by omega⟩

variable (huw : d.updateWindowDims = [1]) (hiw : d.insertedWindowDims = [0]) (hsd : d.scatterDimsToOperandDims = [0])
  (hivd : d.indexVectorDim = 1) {α : Type} (x : (shape2 R C).Idx → α) (idx : IVec (shape2 N 1) 32) (upd : (shape2 N C).Idx → α)
  (dst : Nat → Nat) (hdst : ∀ i : Fin N, idx (ValueIdx.ix2 i (0 : Fin 1)) = BitVec.ofNat 32 (dst i.val))
  (hlt : ∀ i : Fin N, dst i.val < 2 ^ 31)

include huw hiw hsd hivd hdst hlt

/-- Where row `i` is sent to `dst i`, an update lands at row `r` only if its row is sent there, and in its own column. -/
theorem lands_dst (i : Fin N) (j : Fin C) (r : Fin R) (c : Fin C) :
    d.resultIdx? (ValueIdx.ix2 i j) idx = some (ValueIdx.ix2 r c) ↔ dst i.val = r.val ∧ j = c := by
  rw [lands d huw hiw hsd hivd, hdst i, WordCmp.toInt_ofNat_of_lt (w := 32) (hlt i)]
  omega

/-- A row to which exactly one update row is sent holds that row afterwards. -/
theorem hit (hinj : ∀ i i' : Fin N, dst i.val = dst i'.val → i = i') (i : Fin N) (r : Fin R) (c : Fin C) (hr : dst i.val = r.val) :
    Host.scatter d (fun _ b => b) x idx upd (ValueIdx.ix2 r c) = upd (ValueIdx.ix2 i c) := by
  refine Routing.scatter_set_hit d x idx upd _ _ (fun k hk => ?_) (ValueIdx.ix2 i c)
    ((lands_dst d huw hiw hsd hivd idx dst hdst hlt i c r c).2 ⟨hr, rfl⟩)
  obtain ⟨i', j', rfl⟩ : ∃ i' j', k = ValueIdx.ix2 i' j' := ⟨k 0, k 1, by funext a; match a with | ⟨0, _⟩ => rfl | ⟨1, _⟩ => rfl⟩
  obtain ⟨h, rfl⟩ := (lands_dst d huw hiw hsd hivd idx dst hdst hlt i' j' r c).1 hk
  rw [hinj i' i (h.trans hr.symm)]

/-- A row to which no update row is sent keeps what it held. -/
theorem miss (r : Fin R) (c : Fin C) (hr : ∀ i : Fin N, dst i.val ≠ r.val) :
    Host.scatter d (fun _ b => b) x idx upd (ValueIdx.ix2 r c) = x (ValueIdx.ix2 r c) := by
  refine Routing.scatter_set_miss d x idx upd _ fun k hk => ?_
  obtain ⟨i', j', rfl⟩ : ∃ i' j', k = ValueIdx.ix2 i' j' := ⟨k 0, k 1, by funext a; match a with | ⟨0, _⟩ => rfl | ⟨1, _⟩ => rfl⟩
  exact hr i' ((lands_dst d huw hiw hsd hivd idx dst hdst hlt i' j' r c).1 hk).1

end

end Cert.RowScatter
-- ==== Proof.RefValue.lean ====
/-
The reference's result is the merged array, when every user has 4 contextual rows and 2048 items.

The contextual rows and the rows of the interleaved sequence go to different rows of the result, and together they
fill it: so the second write leaves the contextual rows alone and covers everything else.
-/
module

public import proofs.«01_k».proof.Proof.RefWords
public import proofs.«01_k».proof.Proof.RefRows
public import proofs.«01_k».proof.Proof.RowScatter
public import Idealize.ShloMosaic.Lib.Pointwise.IndexBridge

@[expose] public section

set_option maxRecDepth 16384

noncomputable section

open Idealize.ShloMosaic Idealize.ShloMosaic.TcCoe

namespace Cert.ReferenceIdeal.Term

open Cert.ReferenceIdeal Cert.ReferenceIdeal.Gen Cert.Merge

section

variable (o1 o4 : IVec S17 32) (h1 : ∀ k : Fin 17, o1 (ValueIdx.ix1 k) = BitVec.ofNat 32 (2048 * k.val))
  (h4 : ∀ k : Fin 17, o4 (ValueIdx.ix1 k) = BitVec.ofNat 32 (4 * k.val)) (x : FVec Ideal S65600x512 .f32)

include h1 h4

/-- The places of the contextual rows. -/
theorem placedCtx (i : Fin 64) :
    placeCtx (dstCtx o1 o4) 65600#32 (ValueIdx.ix2 i (0 : Fin 1)) = BitVec.ofNat 32 (4100 * (i.val / 4) + i.val % 4) :=
  placeCtx_apply _ _ i _ (by omega) (dstCtx_apply o1 o4 h1 h4 i)

/-- The places of the rows of the interleaved sequence. -/
theorem placedSeq (i : Fin 65536) :
    placeSeq (dstSeq o1 o4) 65600#32 (ValueIdx.ix2 i (0 : Fin 1)) = BitVec.ofNat 32 (4100 * (i.val / 4096) + (4 + i.val % 4096)) :=
  placeSeq_apply _ _ i _ (by omega) (dstSeq_apply o1 o4 h1 h4 i)

/-- After the contextual write, row `r` among the first 4 of its user holds that contextual row. -/
theorem writeCtx_hit (rows : FVec Ideal S64x512 .f32) (r : Fin 65600) (e : Fin 512) (hr : r.val % 4100 < 4) :
    writeCtx o1 o4 x rows (ix2 r e) = rows (ix2 ⟨4 * (r.val / 4100) + r.val % 4100, by omega⟩ e) := by
  rw [ix2_eq_valueIdx, ix2_eq_valueIdx]
  exact RowScatter.hit scatter_S65600x512_S64x1_S64x512_1_0_0_1 rfl rfl rfl rfl x _ rows (fun i => 4100 * (i / 4) + i % 4)
    (placedCtx o1 o4 h1 h4) (fun i => by omega) (fun i i' e => Fin.ext (by omega)) _ r e
    (by dsimp only; omega)

/-- The write of the interleaved sequence leaves the first 4 rows of every user alone. -/
theorem writeSeq_miss (rows : FVec Ideal S65536x512 .f32) (r : Fin 65600) (e : Fin 512) (hr : r.val % 4100 < 4) :
    writeSeq o1 o4 x rows (ix2 r e) = x (ix2 r e) := by
  rw [ix2_eq_valueIdx]
  exact RowScatter.miss scatter_S65600x512_S65536x1_S65536x512_1_0_0_1 rfl rfl rfl rfl x _ rows
    (fun i => 4100 * (i / 4096) + (4 + i % 4096)) (placedSeq o1 o4 h1 h4) (fun i => by omega) r e
    (fun i => by omega)

/-- After it, every other row holds its row of the interleaved sequence. -/
theorem writeSeq_hit (rows : FVec Ideal S65536x512 .f32) (r : Fin 65600) (e : Fin 512) (hr : ¬ r.val % 4100 < 4) :
    writeSeq o1 o4 x rows (ix2 r e) = rows (ix2 ⟨4096 * (r.val / 4100) + (r.val % 4100 - 4), by omega⟩ e) := by
  rw [ix2_eq_valueIdx, ix2_eq_valueIdx]
  exact RowScatter.hit scatter_S65600x512_S65536x1_S65536x512_1_0_0_1 rfl rfl rfl rfl x _ rows
    (fun i => 4100 * (i / 4096) + (4 + i % 4096)) (placedSeq o1 o4 h1 h4) (fun i => by omega)
    (fun i i' e => Fin.ext (by omega)) _ r e (by dsimp only; omega)

end

/-- The two writes of the reference's rows make the merged array. -/
theorem writes_eq (a : Args) (o1 o4 : IVec S17 32) (h1 : ∀ k : Fin 17, o1 (ValueIdx.ix1 k) = BitVec.ofNat 32 (2048 * k.val))
    (h4 : ∀ k : Fin 17, o4 (ValueIdx.ix1 k) = BitVec.ofNat 32 (4 * k.val)) (x : FVec Ideal S65600x512 .f32) :
    writeSeq o1 o4 (writeCtx o1 o4 x (actCtx (linCtx a.ctx a.wCtx a.bCtx))) (interleave (actItem (linItem a.item a.wItem a.bItem)) a.action)
      = merged a := by
  funext j
  obtain ⟨r, e, rfl⟩ : ∃ (r : Fin 65600) (e : Fin 512), j = ix2 r e := by idx_vars j; exact ⟨_, _, rfl⟩
  show _ = mergedRow a r.val r.isLt e
  unfold mergedRow
  by_cases hr : r.val % 4100 < 4
  · rw [dif_pos hr, writeSeq_miss o1 o4 h1 h4 _ _ r e hr, writeCtx_hit o1 o4 h1 h4 _ _ r e hr, ctx_apply]
    rfl
  · rw [dif_neg hr, writeSeq_hit o1 o4 h1 h4 _ _ r e hr, interleave_apply, item_apply]
    unfold seqRow
    dsimp only
    split <;> rfl

end Cert.ReferenceIdeal.Term

end
-- ==== Proof.PreFacts.lean ====
/-
What the precondition says: the item offsets are the multiples of 2048 and the contextual offsets the multiples of 4.
-/
module

public import proofs.«01_k».proof.Proof.Gen.Pre_dense_offsets
public import Idealize.ShloMosaic.Lib.ReduceAll
public import proofs.«01_k».proof.Proof.Spec
public import proofs.«01_k».proof.Proof.Words

@[expose] public section

set_option maxRecDepth 16384

namespace Cert.Offsets

open Cert.Pre_dense_offsets Cert.Pre_dense_offsets.Gen Idealize.ShloMosaic

/-- A vector of words found equal, everywhere, to the numbers of its entries times `K` holds those numbers. -/
theorem multiples (o : IVec S17 32) (K : Nat)
    (e : Host.reduce IntOp.andi (cmpi .eq o (muli (iotaInDim S17 32 0) (broadcastInDim S17 ![] Facts.bcast_S_S17 (constantI S_ 32 (BitVec.ofNat 32 K)))))
      (constantI S_ 1 1#1) Facts.reducesTo_S17_S_d0 Facts.h_S_ ValueIdx.ix0 = 1#1) (k : Fin 17) :
    o (ValueIdx.ix1 k) = BitVec.ofNat 32 (K * k.val) := by
  have : Subsingleton S_.Idx := ⟨fun _ _ => funext fun a => a.elim0⟩
  have h := Host.reduce_andi_all _ _ _ _ _ e (ValueIdx.ix1 k)
  unfold cmpi muli at h
  rw [Routing.bc0] at h
  have h' : o (ValueIdx.ix1 k) = BitVec.ofNat 32 k.val * BitVec.ofNat 32 K := StableHlo.Predicate.cmpi_eq_iff.1 h
  rw [h', Words.mul_words, Nat.mul_comm]

/-- The precondition read back: both vectors of offsets hold the multiples of their segment's length. -/
theorem dense (a0 : FVec Ideal S32768x512 .f32) (a1 : IVec S17 32) (a2 : FVec Ideal S32768x512 .f32) (a3 : FVec Ideal S64x512 .f32)
    (a4 : IVec S17 32) (a5 : FVec Ideal S512x512 .f32) (a6 : FVec Ideal S512 .f32) (a7 : FVec Ideal S512x512 .f32)
    (a8 : FVec Ideal S512 .f32) (h : fn (F := Ideal) a0 a1 a2 a3 a4 a5 a6 a7 a8 = fun _ => 1#1) :
    (∀ k : Fin 17, a1 (ValueIdx.ix1 k) = BitVec.ofNat 32 (2048 * k.val)) ∧ ∀ k : Fin 17, a4 (ValueIdx.ix1 k) = BitVec.ofNat 32 (4 * k.val) := by
  obtain ⟨e1, e4⟩ := IntOp.andi_eq_one.1 (congrFun h ValueIdx.ix0)
  exact ⟨multiples a1 2048 e1, multiples a4 4 e4⟩

end Cert.Offsets
-- ==== Proof.lean ====
/-
The proof of `Cert.Claim`. Both programs run to the end and leave their arguments as they were; the kernel's result is
the merged array (Proof/KernelRun.lean), and where the precondition holds so is the reference's (Proof/RefValue.lean).
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_dense_offsets
public import proofs.«01_k».proof.Proof.KernelRun
public import proofs.«01_k».proof.Proof.RefValue
public import proofs.«01_k».proof.Proof.PreFacts
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to the end, its arguments unchanged and every counter at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Where the offsets are the multiples of 4 and of 2048, the kernel and the reference end with the same array: the merged one. -/
theorem value : Cert.algebraic_KernelIdeal_ReferenceIdeal_pre_dense_offsets := fun m g m' g' hpre hargs => by
  refine ⟨fun c => Cert.Merge.merged (Cert.KernelIdeal.Result.args m c), Cert.KernelIdeal.Result.run m g,
    (θ_run Cert.ReferenceIdeal.defs _ _).mono (fun r h c => ⟨(h c).1.trans ?_, (h c).2⟩)
      (Cert.ReferenceIdeal.Value.run (F := Ideal) m' g')⟩
  obtain ⟨e0, e1, e2, e3, e4, e5, e6, e7, e8⟩ := hargs c
  obtain ⟨h1, h4⟩ := Cert.Offsets.dense _ _ _ _ _ _ _ _ _ (hpre c)
  rw [Cert.ReferenceIdeal.Term.result_eq, e0, e1, e2, e3, e4, e5, e6, e7, e8]
  exact Cert.ReferenceIdeal.Term.writes_eq (Cert.KernelIdeal.Result.args m c) _ _ h1 h4 _

theorem claim : Cert.Claim := ⟨Cert.Kernel.Gen.facts, Cert.KernelIdeal.Gen.facts, Cert.ReferenceIdeal.Gen.facts, Cert.Pre_dense_offsets.Gen.facts,
  fun m g _ => Cert.Kernel.Gen.frame m g, fun m g _ => Cert.KernelIdeal.Gen.frame m g, fun m g _ => Cert.KernelIdeal.Gen.frame m g,
  frame_reference, fun m g _ => frame_reference m g trivial, trivial, value⟩

end Cert.Proof

end
